-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sentences_finite [hPre_sentences_finite : Cert.Pre_sentences_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sentences_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sentences_finite [hPre_sentences_finite : Cert.Pre_sentences_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sentences_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sentences_finite [hKernelIdeal : Cert.KernelIdeal.Facts] [hPre_sentences_finite : Cert.Pre_sentences_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sentences_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sentences_finite [hReferenceIdeal : Cert.ReferenceIdeal.Facts] [hPre_sentences_finite : Cert.Pre_sentences_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sentences_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sentences_finite [hKernelIdeal : Cert.KernelIdeal.Facts] [hReferenceIdeal : Cert.ReferenceIdeal.Facts] [hPre_sentences_finite : Cert.Pre_sentences_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sentences_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v380) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sentences_finite : Cert.Pre_sentences_finite.Facts),
    quiescent_Kernel (hKernel := hKernel)
    ∧ quiescent_KernelIdeal (hKernelIdeal := hKernelIdeal)
    ∧ quiescent_KernelIdeal_pre_sentences_finite (hKernelIdeal := hKernelIdeal) (hPre_sentences_finite := hPre_sentences_finite)
    ∧ quiescent_ReferenceIdeal (hReferenceIdeal := hReferenceIdeal)
    ∧ quiescent_ReferenceIdeal_pre_sentences_finite (hReferenceIdeal := hReferenceIdeal) (hPre_sentences_finite := hPre_sentences_finite)
    ∧ preserves_Kernel_KernelIdeal
    ∧ algebraic_KernelIdeal_ReferenceIdeal_pre_sentences_finite (hKernelIdeal := hKernelIdeal) (hReferenceIdeal := hReferenceIdeal) (hPre_sentences_finite := hPre_sentences_finite)
-- ==== Pre_sentences_finite.lean ====
abbrev S512x10x20x128 : Shape := ⟨4, ![512, 10, 20, 128]⟩
abbrev S512x10x20 : Shape := ⟨3, ![512, 10, 20]⟩
abbrev S512x20x128 : Shape := ⟨3, ![512, 20, 128]⟩
abbrev S128x128 : Shape := ⟨2, ![128, 128]⟩
abbrev S_ : Shape := ⟨0, ![]⟩

class Facts : Prop where
  bcast_S_S512x10x20x128 : S_.BroadcastsInDim S512x10x20x128 (![] : Fin 0 → Fin S512x10x20x128.rank)

variable [Facts]

def fn {F : FTy → Type} [FloatOps F] (main_arg0 : FVec F S512x10x20x128 .f32) (main_arg1 : IVec S512x10x20 32) (main_arg2 : FVec F S512x20x128 .f32) (main_arg3 : FVec F S128x128 .f32) (main_arg4 : FVec F S128x128 .f32) (main_arg5 : FVec F S128x128 .f32) : IVec S512x10x20x128 1 :=
  let main_v0 : FVec F S512x10x20x128 .f32 := Host.absf main_arg0
  let main_cst : FVec F S_ .f32 := constant S_ .f32 0x7F800000#32
  let main_v1 : FVec F S512x10x20x128 .f32 := broadcastInDim S512x10x20x128 ![] bcast_S_S512x10x20x128 main_cst
  let main_v2 : IVec S512x10x20x128 1 := cmpf .olt main_v0 main_v1
  main_v2
-- ==== Kernel.lean ====
abbrev S512x10x20x128 : Shape := ⟨4, ![512, 10, 20, 128]⟩
abbrev S512x10x20 : Shape := ⟨3, ![512, 10, 20]⟩
abbrev S512x20x128 : Shape := ⟨3, ![512, 20, 128]⟩
abbrev S128x128 : Shape := ⟨2, ![128, 128]⟩
abbrev S512x10x1 : Shape := ⟨3, ![512, 10, 1]⟩
abbrev S512x10 : Shape := ⟨2, ![512, 10]⟩
abbrev S_ : Shape := ⟨0, ![]⟩
abbrev S10240x128 : Shape := ⟨2, ![10240, 128]⟩
abbrev S512x200x128 : Shape := ⟨3, ![512, 200, 128]⟩
abbrev S128x200x128 : Shape := ⟨3, ![128, 200, 128]⟩
abbrev S128x10 : Shape := ⟨2, ![128, 10]⟩
abbrev S2560x128 : Shape := ⟨2, ![2560, 128]⟩
abbrev S128x20x128 : Shape := ⟨3, ![128, 20, 128]⟩
abbrev S128x1 : Shape := ⟨2, ![128, 1]⟩

abbrev nBuf : Space → Nat
  | .hbm => 16
  | .vmem => 11
  | .smem => 0
  | _ => 0

abbrev bufTy : (tb : Table) → Fin (tcTables nBuf tb) → BufTy
  | .hbm, ⟨0, _⟩ => ⟨S512x10x20x128, .f32⟩
  | .hbm, ⟨1, _⟩ => ⟨S512x10x20, .i32⟩
  | .hbm, ⟨2, _⟩ => ⟨S512x20x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S512x10x1, .i32⟩
  | .hbm, ⟨7, _⟩ => ⟨S512x10, .i32⟩
  | .hbm, ⟨8, _⟩ => ⟨S_, .i32⟩
  | .hbm, ⟨9, _⟩ => ⟨S512x10, .i32⟩
  | .hbm, ⟨10, _⟩ => ⟨S512x10, .i1⟩
  | .hbm, ⟨11, _⟩ => ⟨S512x10, .f32⟩
  | .hbm, ⟨12, _⟩ => ⟨S10240x128, .f32⟩
  | .hbm, ⟨13, _⟩ => ⟨S512x200x128, .f32⟩
  | .hbm, ⟨14, _⟩ => ⟨S10240x128, .f32⟩
  | .hbm, ⟨15, _⟩ => ⟨S512x20x128, .f32⟩
  | .local _ .vmem, ⟨0, _⟩ => ⟨S128x200x128, .f32⟩
  | .local _ .vmem, ⟨1, _⟩ => ⟨S128x200x128, .f32⟩
  | .local _ .vmem, ⟨2, _⟩ => ⟨S128x10, .f32⟩
  | .local _ .vmem, ⟨3, _⟩ => ⟨S128x10, .f32⟩
  | .local _ .vmem, ⟨4, _⟩ => ⟨S2560x128, .f32⟩
  | .local _ .vmem, ⟨5, _⟩ => ⟨S2560x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S2560x128, .f32⟩
  | .local _ .vmem, ⟨10, _⟩ => ⟨S2560x128, .f32⟩
  | _, _ => ⟨S512x10x20x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S512x10x20x128 : Shape := ⟨4, ![512, 10, 20, 128]⟩
abbrev S512x10x20 : Shape := ⟨3, ![512, 10, 20]⟩
abbrev S512x20x128 : Shape := ⟨3, ![512, 20, 128]⟩
abbrev S128x128 : Shape := ⟨2, ![128, 128]⟩
abbrev S_ : Shape := ⟨0, ![]⟩
abbrev S512x1x20x128 : Shape := ⟨4, ![512, 1, 20, 128]⟩
abbrev S512x128 : Shape := ⟨2, ![512, 128]⟩
abbrev S512x20 : Shape := ⟨2, ![512, 20]⟩
abbrev S512x1x128 : Shape := ⟨3, ![512, 1, 128]⟩
abbrev S512x20x1 : Shape := ⟨3, ![512, 20, 1]⟩
abbrev S512x1x1 : Shape := ⟨3, ![512, 1, 1]⟩
abbrev S512 : Shape := ⟨1, ![512]⟩

abbrev nBuf : Space → Nat
  | .hbm => 478
  | .vmem => 0
  | .smem => 0
  | _ => 0

abbrev hbmTy0_0 (i : Nat) : BufTy := match i % 128 with
  | 0 => ⟨S512x10x20x128, .f32⟩
  | 1 => ⟨S512x10x20, .i32⟩
  | 2 => ⟨S512x20x128, .f32⟩
  | 3 => ⟨S128x128, .f32⟩
  | 4 => ⟨S128x128, .f32⟩
  | 5 => ⟨S128x128, .f32⟩
  | 6 => ⟨S_, .f32⟩
  | 7 => ⟨S512x20x128, .f32⟩
  | 8 => ⟨S512x1x20x128, .f32⟩
  | 9 => ⟨S512x20x128, .f32⟩
  | 10 => ⟨S_, .f32⟩
  | 11 => ⟨S512x128, .f32⟩
  | 12 => ⟨S512x20, .f32⟩
  | 13 => ⟨S512x20, .f32⟩
  | 14 => ⟨S512x20, .f32⟩
  | 15 => ⟨S512x20, .f32⟩
  | 16 => ⟨S512x20, .f32⟩
  | 17 => ⟨S_, .f32⟩
  | 18 => ⟨S512x20, .f32⟩
  | 19 => ⟨S512x20, .f32⟩
  | 20 => ⟨S_, .f32⟩
  | 21 => ⟨S512x20, .f32⟩
  | 22 => ⟨S512x20, .f32⟩
  | 23 => ⟨S512x20x128, .f32⟩
  | 24 => ⟨S512x20x128, .f32⟩
  | 25 => ⟨S512x20x128, .f32⟩
  | 26 => ⟨S512x128, .f32⟩
  | 27 => ⟨S512x1x128, .f32⟩
  | 28 => ⟨S512x20x128, .f32⟩
  | 29 => ⟨S512x20x128, .f32⟩
  | 30 => ⟨S_, .f32⟩
  | 31 => ⟨S512x20x128, .f32⟩
  | 32 => ⟨S512x20x128, .f32⟩
  | 33 => ⟨S512x20x1, .f32⟩
  | 34 => ⟨S512x20x128, .f32⟩
  | 35 => ⟨S512x20x128, .f32⟩
  | 36 => ⟨S512x20x128, .f32⟩
  | 37 => ⟨S512x20x128, .f32⟩
  | 38 => ⟨S_, .f32⟩
  | 39 => ⟨S512x20, .f32⟩
  | 40 => ⟨S512x20x1, .f32⟩
  | 41 => ⟨S_, .f32⟩
  | 42 => ⟨S512x20x1, .f32⟩
  | 43 => ⟨S512x20x1, .f32⟩
  | 44 => ⟨S512x20x1, .f32⟩
  | 45 => ⟨S512x20x128, .f32⟩
  | 46 => ⟨S512x20x128, .f32⟩
  | 47 => ⟨S512x1x1, .i32⟩
  | 48 => ⟨S512, .i32⟩
  | 49 => ⟨S_, .i32⟩
  | 50 => ⟨S512, .i32⟩
  | 51 => ⟨S512, .i1⟩
  | 52 => ⟨S512x1x1, .i1⟩
  | 53 => ⟨S512x20x128, .i1⟩
  | 54 => ⟨S512x20x128, .f32⟩
  | 55 => ⟨S512x1x20x128, .f32⟩
  | 56 => ⟨S512x20x128, .f32⟩
  | 57 => ⟨S_, .f32⟩
  | 58 => ⟨S512x128, .f32⟩
  | 59 => ⟨S512x20, .f32⟩
  | 60 => ⟨S512x20, .f32⟩
  | 61 => ⟨S512x20, .f32⟩
  | 62 => ⟨S512x20, .f32⟩
  | 63 => ⟨S512x20, .f32⟩
  | 64 => ⟨S_, .f32⟩
  | 65 => ⟨S512x20, .f32⟩
  | 66 => ⟨S512x20, .f32⟩
  | 67 => ⟨S_, .f32⟩
  | 68 => ⟨S512x20, .f32⟩
  | 69 => ⟨S512x20, .f32⟩
  | 70 => ⟨S512x20x128, .f32⟩
  | 71 => ⟨S512x20x128, .f32⟩
  | 72 => ⟨S512x20x128, .f32⟩
  | 73 => ⟨S512x128, .f32⟩
  | 74 => ⟨S512x1x128, .f32⟩
  | 75 => ⟨S512x20x128, .f32⟩
  | 76 => ⟨S512x20x128, .f32⟩
  | 77 => ⟨S_, .f32⟩
  | 78 => ⟨S512x20x128, .f32⟩
  | 79 => ⟨S512x20x128, .f32⟩
  | 80 => ⟨S512x20x1, .f32⟩
  | 81 => ⟨S512x20x128, .f32⟩
  | 82 => ⟨S512x20x128, .f32⟩
  | 83 => ⟨S512x20x128, .f32⟩
  | 84 => ⟨S512x20x128, .f32⟩
  | 85 => ⟨S_, .f32⟩
  | 86 => ⟨S512x20, .f32⟩
  | 87 => ⟨S512x20x1, .f32⟩
  | 88 => ⟨S_, .f32⟩
  | 89 => ⟨S512x20x1, .f32⟩
  | 90 => ⟨S512x20x1, .f32⟩
  | 91 => ⟨S512x20x1, .f32⟩
  | 92 => ⟨S512x20x128, .f32⟩
  | 93 => ⟨S512x20x128, .f32⟩
  | 94 => ⟨S512x1x1, .i32⟩
  | 95 => ⟨S512, .i32⟩
  | 96 => ⟨S_, .i32⟩
  | 97 => ⟨S512, .i32⟩
  | 98 => ⟨S512, .i1⟩
  | 99 => ⟨S512x1x1, .i1⟩
  | 100 => ⟨S512x20x128, .i1⟩
  | 101 => ⟨S512x20x128, .f32⟩
  | 102 => ⟨S512x1x20x128, .f32⟩
  | 103 => ⟨S512x20x128, .f32⟩
  | 104 => ⟨S_, .f32⟩
  | 105 => ⟨S512x128, .f32⟩
  | 106 => ⟨S512x20, .f32⟩
  | 107 => ⟨S512x20, .f32⟩
  | 108 => ⟨S512x20, .f32⟩
  | 109 => ⟨S512x20, .f32⟩
  | 110 => ⟨S512x20, .f32⟩
  | 111 => ⟨S_, .f32⟩
  | 112 => ⟨S512x20, .f32⟩
  | 113 => ⟨S512x20, .f32⟩
  | 114 => ⟨S_, .f32⟩
  | 115 => ⟨S512x20, .f32⟩
  | 116 => ⟨S512x20, .f32⟩
  | 117 => ⟨S512x20x128, .f32⟩
  | 118 => ⟨S512x20x128, .f32⟩
  | 119 => ⟨S512x20x128, .f32⟩
  | 120 => ⟨S512x128, .f32⟩
  | 121 => ⟨S512x1x128, .f32⟩
  | 122 => ⟨S512x20x128, .f32⟩
  | 123 => ⟨S512x20x128, .f32⟩
  | 124 => ⟨S_, .f32⟩
  | 125 => ⟨S512x20x128, .f32⟩
  | 126 => ⟨S512x20x128, .f32⟩
  | 127 => ⟨S512x20x1, .f32⟩
  | _ => ⟨S512x10x20x128, .f32⟩

abbrev hbmTy0_1 (i : Nat) : BufTy := match i % 128 with
  | 0 => ⟨S512x20x128, .f32⟩
  | 1 => ⟨S512x20x128, .f32⟩
  | 2 => ⟨S512x20x128, .f32⟩
  | 3 => ⟨S512x20x128, .f32⟩
  | 4 => ⟨S_, .f32⟩
  | 5 => ⟨S512x20, .f32⟩
  | 6 => ⟨S512x20x1, .f32⟩
  | 7 => ⟨S_, .f32⟩
  | 8 => ⟨S512x20x1, .f32⟩
  | 9 => ⟨S512x20x1, .f32⟩
  | 10 => ⟨S512x20x1, .f32⟩
  | 11 => ⟨S512x20x128, .f32⟩
  | 12 => ⟨S512x20x128, .f32⟩
  | 13 => ⟨S512x1x1, .i32⟩
  | 14 => ⟨S512, .i32⟩
  | 15 => ⟨S_, .i32⟩
  | 16 => ⟨S512, .i32⟩
  | 17 => ⟨S512, .i1⟩
  | 18 => ⟨S512x1x1, .i1⟩
  | 19 => ⟨S512x20x128, .i1⟩
  | 20 => ⟨S512x20x128, .f32⟩
  | 21 => ⟨S512x1x20x128, .f32⟩
  | 22 => ⟨S512x20x128, .f32⟩
  | 23 => ⟨S_, .f32⟩
  | 24 => ⟨S512x128, .f32⟩
  | 25 => ⟨S512x20, .f32⟩
  | 26 => ⟨S512x20, .f32⟩
  | 27 => ⟨S512x20, .f32⟩
  | 28 => ⟨S512x20, .f32⟩
  | 29 => ⟨S512x20, .f32⟩
  | 30 => ⟨S_, .f32⟩
  | 31 => ⟨S512x20, .f32⟩
  | 32 => ⟨S512x20, .f32⟩
  | 33 => ⟨S_, .f32⟩
  | 34 => ⟨S512x20, .f32⟩
  | 35 => ⟨S512x20, .f32⟩
  | 36 => ⟨S512x20x128, .f32⟩
  | 37 => ⟨S512x20x128, .f32⟩
  | 38 => ⟨S512x20x128, .f32⟩
  | 39 => ⟨S512x128, .f32⟩
  | 40 => ⟨S512x1x128, .f32⟩
  | 41 => ⟨S512x20x128, .f32⟩
  | 42 => ⟨S512x20x128, .f32⟩
  | 43 => ⟨S_, .f32⟩
  | 44 => ⟨S512x20x128, .f32⟩
  | 45 => ⟨S512x20x128, .f32⟩
  | 46 => ⟨S512x20x1, .f32⟩
  | 47 => ⟨S512x20x128, .f32⟩
  | 48 => ⟨S512x20x128, .f32⟩
  | 49 => ⟨S512x20x128, .f32⟩
  | 50 => ⟨S512x20x128, .f32⟩
  | 51 => ⟨S_, .f32⟩
  | 52 => ⟨S512x20, .f32⟩
  | 53 => ⟨S512x20x1, .f32⟩
  | 54 => ⟨S_, .f32⟩
  | 55 => ⟨S512x20x1, .f32⟩
  | 56 => ⟨S512x20x1, .f32⟩
  | 57 => ⟨S512x20x1, .f32⟩
  | 58 => ⟨S512x20x128, .f32⟩
  | 59 => ⟨S512x20x128, .f32⟩
  | 60 => ⟨S512x1x1, .i32⟩
  | 61 => ⟨S512, .i32⟩
  | 62 => ⟨S_, .i32⟩
  | 63 => ⟨S512, .i32⟩
  | 64 => ⟨S512, .i1⟩
  | 65 => ⟨S512x1x1, .i1⟩
  | 66 => ⟨S512x20x128, .i1⟩
  | 67 => ⟨S512x20x128, .f32⟩
  | 68 => ⟨S512x1x20x128, .f32⟩
  | 69 => ⟨S512x20x128, .f32⟩
  | 70 => ⟨S_, .f32⟩
  | 71 => ⟨S512x128, .f32⟩
  | 72 => ⟨S512x20, .f32⟩
  | 73 => ⟨S512x20, .f32⟩
  | 74 => ⟨S512x20, .f32⟩
  | 75 => ⟨S512x20, .f32⟩
  | 76 => ⟨S512x20, .f32⟩
  | 77 => ⟨S_, .f32⟩
  | 78 => ⟨S512x20, .f32⟩
  | 79 => ⟨S512x20, .f32⟩
  | 80 => ⟨S_, .f32⟩
  | 81 => ⟨S512x20, .f32⟩
  | 82 => ⟨S512x20, .f32⟩
  | 83 => ⟨S512x20x128, .f32⟩
  | 84 => ⟨S512x20x128, .f32⟩
  | 85 => ⟨S512x20x128, .f32⟩
  | 86 => ⟨S512x128, .f32⟩
  | 87 => ⟨S512x1x128, .f32⟩
  | 88 => ⟨S512x20x128, .f32⟩
  | 89 => ⟨S512x20x128, .f32⟩
  | 90 => ⟨S_, .f32⟩
  | 91 => ⟨S512x20x128, .f32⟩
  | 92 => ⟨S512x20x128, .f32⟩
  | 93 => ⟨S512x20x1, .f32⟩
  | 94 => ⟨S512x20x128, .f32⟩
  | 95 => ⟨S512x20x128, .f32⟩
  | 96 => ⟨S512x20x128, .f32⟩
  | 97 => ⟨S512x20x128, .f32⟩
  | 98 => ⟨S_, .f32⟩
  | 99 => ⟨S512x20, .f32⟩
  | 100 => ⟨S512x20x1, .f32⟩
  | 101 => ⟨S_, .f32⟩
  | 102 => ⟨S512x20x1, .f32⟩
  | 103 => ⟨S512x20x1, .f32⟩
  | 104 => ⟨S512x20x1, .f32⟩
  | 105 => ⟨S512x20x128, .f32⟩
  | 106 => ⟨S512x20x128, .f32⟩
  | 107 => ⟨S512x1x1, .i32⟩
  | 108 => ⟨S512, .i32⟩
  | 109 => ⟨S_, .i32⟩
  | 110 => ⟨S512, .i32⟩
  | 111 => ⟨S512, .i1⟩
  | 112 => ⟨S512x1x1, .i1⟩
  | 113 => ⟨S512x20x128, .i1⟩
  | 114 => ⟨S512x20x128, .f32⟩
  | 115 => ⟨S512x1x20x128, .f32⟩
  | 116 => ⟨S512x20x128, .f32⟩
  | 117 => ⟨S_, .f32⟩
  | 118 => ⟨S512x128, .f32⟩
  | 119 => ⟨S512x20, .f32⟩
  | 120 => ⟨S512x20, .f32⟩
  | 121 => ⟨S512x20, .f32⟩
  | 122 => ⟨S512x20, .f32⟩
  | 123 => ⟨S512x20, .f32⟩
  | 124 => ⟨S_, .f32⟩
  | 125 => ⟨S512x20, .f32⟩
  | 126 => ⟨S512x20, .f32⟩
  | 127 => ⟨S_, .f32⟩
  | _ => ⟨S512x10x20x128, .f32⟩

abbrev hbmTy0_2 (i : Nat) : BufTy := match i % 128 with
  | 0 => ⟨S512x20, .f32⟩
  | 1 => ⟨S512x20, .f32⟩
  | 2 => ⟨S512x20x128, .f32⟩
  | 3 => ⟨S512x20x128, .f32⟩
  | 4 => ⟨S512x20x128, .f32⟩
  | 5 => ⟨S512x128, .f32⟩
  | 6 => ⟨S512x1x128, .f32⟩
  | 7 => ⟨S512x20x128, .f32⟩
  | 8 => ⟨S512x20x128, .f32⟩
  | 9 => ⟨S_, .f32⟩
  | 10 => ⟨S512x20x128, .f32⟩
  | 11 => ⟨S512x20x128, .f32⟩
  | 12 => ⟨S512x20x1, .f32⟩
  | 13 => ⟨S512x20x128, .f32⟩
  | 14 => ⟨S512x20x128, .f32⟩
  | 15 => ⟨S512x20x128, .f32⟩
  | 16 => ⟨S512x20x128, .f32⟩
  | 17 => ⟨S_, .f32⟩
  | 18 => ⟨S512x20, .f32⟩
  | 19 => ⟨S512x20x1, .f32⟩
  | 20 => ⟨S_, .f32⟩
  | 21 => ⟨S512x20x1, .f32⟩
  | 22 => ⟨S512x20x1, .f32⟩
  | 23 => ⟨S512x20x1, .f32⟩
  | 24 => ⟨S512x20x128, .f32⟩
  | 25 => ⟨S512x20x128, .f32⟩
  | 26 => ⟨S512x1x1, .i32⟩
  | 27 => ⟨S512, .i32⟩
  | 28 => ⟨S_, .i32⟩
  | 29 => ⟨S512, .i32⟩
  | 30 => ⟨S512, .i1⟩
  | 31 => ⟨S512x1x1, .i1⟩
  | 32 => ⟨S512x20x128, .i1⟩
  | 33 => ⟨S512x20x128, .f32⟩
  | 34 => ⟨S512x1x20x128, .f32⟩
  | 35 => ⟨S512x20x128, .f32⟩
  | 36 => ⟨S_, .f32⟩
  | 37 => ⟨S512x128, .f32⟩
  | 38 => ⟨S512x20, .f32⟩
  | 39 => ⟨S512x20, .f32⟩
  | 40 => ⟨S512x20, .f32⟩
  | 41 => ⟨S512x20, .f32⟩
  | 42 => ⟨S512x20, .f32⟩
  | 43 => ⟨S_, .f32⟩
  | 44 => ⟨S512x20, .f32⟩
  | 45 => ⟨S512x20, .f32⟩
  | 46 => ⟨S_, .f32⟩
  | 47 => ⟨S512x20, .f32⟩
  | 48 => ⟨S512x20, .f32⟩
  | 49 => ⟨S512x20x128, .f32⟩
  | 50 => ⟨S512x20x128, .f32⟩
  | 51 => ⟨S512x20x128, .f32⟩
  | 52 => ⟨S512x128, .f32⟩
  | 53 => ⟨S512x1x128, .f32⟩
  | 54 => ⟨S512x20x128, .f32⟩
  | 55 => ⟨S512x20x128, .f32⟩
  | 56 => ⟨S_, .f32⟩
  | 57 => ⟨S512x20x128, .f32⟩
  | 58 => ⟨S512x20x128, .f32⟩
  | 59 => ⟨S512x20x1, .f32⟩
  | 60 => ⟨S512x20x128, .f32⟩
  | 61 => ⟨S512x20x128, .f32⟩
  | 62 => ⟨S512x20x128, .f32⟩
  | 63 => ⟨S512x20x128, .f32⟩
  | 64 => ⟨S_, .f32⟩
  | 65 => ⟨S512x20, .f32⟩
  | 66 => ⟨S512x20x1, .f32⟩
  | 67 => ⟨S_, .f32⟩
  | 68 => ⟨S512x20x1, .f32⟩
  | 69 => ⟨S512x20x1, .f32⟩
  | 70 => ⟨S512x20x1, .f32⟩
  | 71 => ⟨S512x20x128, .f32⟩
  | 72 => ⟨S512x20x128, .f32⟩
  | 73 => ⟨S512x1x1, .i32⟩
  | 74 => ⟨S512, .i32⟩
  | 75 => ⟨S_, .i32⟩
  | 76 => ⟨S512, .i32⟩
  | 77 => ⟨S512, .i1⟩
  | 78 => ⟨S512x1x1, .i1⟩
  | 79 => ⟨S512x20x128, .i1⟩
  | 80 => ⟨S512x20x128, .f32⟩
  | 81 => ⟨S512x1x20x128, .f32⟩
  | 82 => ⟨S512x20x128, .f32⟩
  | 83 => ⟨S_, .f32⟩
  | 84 => ⟨S512x128, .f32⟩
  | 85 => ⟨S512x20, .f32⟩
  | 86 => ⟨S512x20, .f32⟩
  | 87 => ⟨S512x20, .f32⟩
  | 88 => ⟨S512x20, .f32⟩
  | 89 => ⟨S512x20, .f32⟩
  | 90 => ⟨S_, .f32⟩
  | 91 => ⟨S512x20, .f32⟩
  | 92 => ⟨S512x20, .f32⟩
  | 93 => ⟨S_, .f32⟩
  | 94 => ⟨S512x20, .f32⟩
  | 95 => ⟨S512x20, .f32⟩
  | 96 => ⟨S512x20x128, .f32⟩
  | 97 => ⟨S512x20x128, .f32⟩
  | 98 => ⟨S512x20x128, .f32⟩
  | 99 => ⟨S512x128, .f32⟩
  | 100 => ⟨S512x1x128, .f32⟩
  | 101 => ⟨S512x20x128, .f32⟩
  | 102 => ⟨S512x20x128, .f32⟩
  | 103 => ⟨S_, .f32⟩
  | 104 => ⟨S512x20x128, .f32⟩
  | 105 => ⟨S512x20x128, .f32⟩
  | 106 => ⟨S512x20x1, .f32⟩
  | 107 => ⟨S512x20x128, .f32⟩
  | 108 => ⟨S512x20x128, .f32⟩
  | 109 => ⟨S512x20x128, .f32⟩
  | 110 => ⟨S512x20x128, .f32⟩
  | 111 => ⟨S_, .f32⟩
  | 112 => ⟨S512x20, .f32⟩
  | 113 => ⟨S512x20x1, .f32⟩
  | 114 => ⟨S_, .f32⟩
  | 115 => ⟨S512x20x1, .f32⟩
  | 116 => ⟨S512x20x1, .f32⟩
  | 117 => ⟨S512x20x1, .f32⟩
  | 118 => ⟨S512x20x128, .f32⟩
  | 119 => ⟨S512x20x128, .f32⟩
  | 120 => ⟨S512x1x1, .i32⟩
  | 121 => ⟨S512, .i32⟩
  | 122 => ⟨S_, .i32⟩
  | 123 => ⟨S512, .i32⟩
  | 124 => ⟨S512, .i1⟩
  | 125 => ⟨S512x1x1, .i1⟩
  | 126 => ⟨S512x20x128, .i1⟩
  | 127 => ⟨S512x20x128, .f32⟩
  | _ => ⟨S512x10x20x128, .f32⟩

abbrev hbmTy0_3 (i : Nat) : BufTy := match i % 128 with
  | 0 => ⟨S512x1x20x128, .f32⟩
  | 1 => ⟨S512x20x128, .f32⟩
  | 2 => ⟨S_, .f32⟩
  | 3 => ⟨S512x128, .f32⟩
  | 4 => ⟨S512x20, .f32⟩
  | 5 => ⟨S512x20, .f32⟩
  | 6 => ⟨S512x20, .f32⟩
  | 7 => ⟨S512x20, .f32⟩
  | 8 => ⟨S512x20, .f32⟩
  | 9 => ⟨S_, .f32⟩
  | 10 => ⟨S512x20, .f32⟩
  | 11 => ⟨S512x20, .f32⟩
  | 12 => ⟨S_, .f32⟩
  | 13 => ⟨S512x20, .f32⟩
  | 14 => ⟨S512x20, .f32⟩
  | 15 => ⟨S512x20x128, .f32⟩
  | 16 => ⟨S512x20x128, .f32⟩
  | 17 => ⟨S512x20x128, .f32⟩
  | 18 => ⟨S512x128, .f32⟩
  | 19 => ⟨S512x1x128, .f32⟩
  | 20 => ⟨S512x20x128, .f32⟩
  | 21 => ⟨S512x20x128, .f32⟩
  | 22 => ⟨S_, .f32⟩
  | 23 => ⟨S512x20x128, .f32⟩
  | 24 => ⟨S512x20x128, .f32⟩
  | 25 => ⟨S512x20x1, .f32⟩
  | 26 => ⟨S512x20x128, .f32⟩
  | 27 => ⟨S512x20x128, .f32⟩
  | 28 => ⟨S512x20x128, .f32⟩
  | 29 => ⟨S512x20x128, .f32⟩
  | 30 => ⟨S_, .f32⟩
  | 31 => ⟨S512x20, .f32⟩
  | 32 => ⟨S512x20x1, .f32⟩
  | 33 => ⟨S_, .f32⟩
  | 34 => ⟨S512x20x1, .f32⟩
  | 35 => ⟨S512x20x1, .f32⟩
  | 36 => ⟨S512x20x1, .f32⟩
  | 37 => ⟨S512x20x128, .f32⟩
  | 38 => ⟨S512x20x128, .f32⟩
  | 39 => ⟨S512x1x1, .i32⟩
  | 40 => ⟨S512, .i32⟩
  | 41 => ⟨S_, .i32⟩
  | 42 => ⟨S512, .i32⟩
  | 43 => ⟨S512, .i1⟩
  | 44 => ⟨S512x1x1, .i1⟩
  | 45 => ⟨S512x20x128, .i1⟩
  | 46 => ⟨S512x20x128, .f32⟩
  | 47 => ⟨S512x1x20x128, .f32⟩
  | 48 => ⟨S512x20x128, .f32⟩
  | 49 => ⟨S_, .f32⟩
  | 50 => ⟨S512x128, .f32⟩
  | 51 => ⟨S512x20, .f32⟩
  | 52 => ⟨S512x20, .f32⟩
  | 53 => ⟨S512x20, .f32⟩
  | 54 => ⟨S512x20, .f32⟩
  | 55 => ⟨S512x20, .f32⟩
  | 56 => ⟨S_, .f32⟩
  | 57 => ⟨S512x20, .f32⟩
  | 58 => ⟨S512x20, .f32⟩
  | 59 => ⟨S_, .f32⟩
  | 60 => ⟨S512x20, .f32⟩
  | 61 => ⟨S512x20, .f32⟩
  | 62 => ⟨S512x20x128, .f32⟩
  | 63 => ⟨S512x20x128, .f32⟩
  | 64 => ⟨S512x20x128, .f32⟩
  | 65 => ⟨S512x128, .f32⟩
  | 66 => ⟨S512x1x128, .f32⟩
  | 67 => ⟨S512x20x128, .f32⟩
  | 68 => ⟨S512x20x128, .f32⟩
  | 69 => ⟨S_, .f32⟩
  | 70 => ⟨S512x20x128, .f32⟩
  | 71 => ⟨S512x20x128, .f32⟩
  | 72 => ⟨S512x20x1, .f32⟩
  | 73 => ⟨S512x20x128, .f32⟩
  | 74 => ⟨S512x20x128, .f32⟩
  | 75 => ⟨S512x20x128, .f32⟩
  | 76 => ⟨S512x20x128, .f32⟩
  | 77 => ⟨S_, .f32⟩
  | 78 => ⟨S512x20, .f32⟩
  | 79 => ⟨S512x20x1, .f32⟩
  | 80 => ⟨S_, .f32⟩
  | 81 => ⟨S512x20x1, .f32⟩
  | 82 => ⟨S512x20x1, .f32⟩
  | 83 => ⟨S512x20x1, .f32⟩
  | 84 => ⟨S512x20x128, .f32⟩
  | 85 => ⟨S512x20x128, .f32⟩
  | 86 => ⟨S512x1x1, .i32⟩
  | 87 => ⟨S512, .i32⟩
  | 88 => ⟨S_, .i32⟩
  | 89 => ⟨S512, .i32⟩
  | 90 => ⟨S512, .i1⟩
  | 91 => ⟨S512x1x1, .i1⟩
  | 92 => ⟨S512x20x128, .i1⟩
  | 93 => ⟨S512x20x128, .f32⟩
  | _ => ⟨S512x10x20x128, .f32⟩

abbrev hbmTy (i : Nat) : BufTy := match i / 128 with
  | 0 => hbmTy0_0 i
  | 1 => hbmTy0_1 i
  | 2 => hbmTy0_2 i
  | 3 => hbmTy0_3 i
  | _ => ⟨S512x10x20x128, .f32⟩

abbrev bufTy : (tb : Table) → Fin (tcTables nBuf tb) → BufTy
  | .hbm, ⟨i, _⟩ => hbmTy i
  | _, _ => ⟨S512x10x20x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call1_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call2_cst : Ref sig .tc := ⟨.hbm, 77, rfl⟩
abbrev main_call2_v0 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call3_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_11 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call4_cst : Ref sig .tc := ⟨.hbm, 124, rfl⟩
abbrev main_call4_v0 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_14 : Ref sig .tc := ⟨.hbm, 132, rfl⟩
abbrev main_v102 : Ref sig .tc := ⟨.hbm, 133, rfl⟩
abbrev main_v103 : Ref sig .tc := ⟨.hbm, 134, rfl⟩
abbrev main_cst_15 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_16 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_call5_v0 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_17 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_18 : Ref sig .tc := ⟨.hbm, 158, rfl⟩
abbrev main_v123 : Ref sig .tc := ⟨.hbm, 159, rfl⟩
abbrev main_v124 : Ref sig .tc := ⟨.hbm, 160, rfl⟩
abbrev main_cst_19 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_call6_cst : Ref sig .tc := ⟨.hbm, 171, rfl⟩
abbrev main_call6_v0 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_20 : Ref sig .tc := ⟨.hbm, 179, rfl⟩
abbrev main_v140 : Ref sig .tc := ⟨.hbm, 180, rfl⟩
abbrev main_v141 : Ref sig .tc := ⟨.hbm, 181, rfl⟩
abbrev main_cst_21 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_c_22 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_call7_v0 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_23 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_24 : Ref sig .tc := ⟨.hbm, 205, rfl⟩
abbrev main_v161 : Ref sig .tc := ⟨.hbm, 206, rfl⟩
abbrev main_v162 : Ref sig .tc := ⟨.hbm, 207, rfl⟩
abbrev main_cst_25 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_call8_cst : Ref sig .tc := ⟨.hbm, 218, rfl⟩
abbrev main_call8_v0 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_cst_26 : Ref sig .tc := ⟨.hbm, 226, rfl⟩
abbrev main_v178 : Ref sig .tc := ⟨.hbm, 227, rfl⟩
abbrev main_v179 : Ref sig .tc := ⟨.hbm, 228, rfl⟩
abbrev main_cst_27 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_c_28 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_call9_v0 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_29 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_cst_30 : Ref sig .tc := ⟨.hbm, 252, rfl⟩
abbrev main_v199 : Ref sig .tc := ⟨.hbm, 253, rfl⟩
abbrev main_v200 : Ref sig .tc := ⟨.hbm, 254, rfl⟩
abbrev main_cst_31 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_call10_cst : Ref sig .tc := ⟨.hbm, 265, rfl⟩
abbrev main_call10_v0 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_cst_32 : Ref sig .tc := ⟨.hbm, 273, rfl⟩
abbrev main_v216 : Ref sig .tc := ⟨.hbm, 274, rfl⟩
abbrev main_v217 : Ref sig .tc := ⟨.hbm, 275, rfl⟩
abbrev main_cst_33 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_c_34 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_call11_v0 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_cst_35 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_cst_36 : Ref sig .tc := ⟨.hbm, 299, rfl⟩
abbrev main_v237 : Ref sig .tc := ⟨.hbm, 300, rfl⟩
abbrev main_v238 : Ref sig .tc := ⟨.hbm, 301, rfl⟩
abbrev main_cst_37 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_call12_cst : Ref sig .tc := ⟨.hbm, 312, rfl⟩
abbrev main_call12_v0 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_cst_38 : Ref sig .tc := ⟨.hbm, 320, rfl⟩
abbrev main_v254 : Ref sig .tc := ⟨.hbm, 321, rfl⟩
abbrev main_v255 : Ref sig .tc := ⟨.hbm, 322, rfl⟩
abbrev main_cst_39 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_c_40 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_call13_v0 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_cst_41 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_cst_42 : Ref sig .tc := ⟨.hbm, 346, rfl⟩
abbrev main_v275 : Ref sig .tc := ⟨.hbm, 347, rfl⟩
abbrev main_v276 : Ref sig .tc := ⟨.hbm, 348, rfl⟩
abbrev main_cst_43 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_v285 : Ref sig .tc := ⟨.hbm, 358, rfl⟩
abbrev main_call14_cst : Ref sig .tc := ⟨.hbm, 359, rfl⟩
abbrev main_call14_v0 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_cst_44 : Ref sig .tc := ⟨.hbm, 367, rfl⟩
abbrev main_v292 : Ref sig .tc := ⟨.hbm, 368, rfl⟩
abbrev main_v293 : Ref sig .tc := ⟨.hbm, 369, rfl⟩
abbrev main_cst_45 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_c_46 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_call15_v0 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_cst_47 : Ref sig .tc := ⟨.hbm, 386, rfl⟩
abbrev main_v307 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_cst_48 : Ref sig .tc := ⟨.hbm, 393, rfl⟩
abbrev main_v313 : Ref sig .tc := ⟨.hbm, 394, rfl⟩
abbrev main_v314 : Ref sig .tc := ⟨.hbm, 395, rfl⟩
abbrev main_cst_49 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_v323 : Ref sig .tc := ⟨.hbm, 405, rfl⟩
abbrev main_call16_cst : Ref sig .tc := ⟨.hbm, 406, rfl⟩
abbrev main_call16_v0 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_cst_50 : Ref sig .tc := ⟨.hbm, 414, rfl⟩
abbrev main_v330 : Ref sig .tc := ⟨.hbm, 415, rfl⟩
abbrev main_v331 : Ref sig .tc := ⟨.hbm, 416, rfl⟩
abbrev main_cst_51 : Ref sig .tc := ⟨.hbm, 417, rfl⟩
abbrev main_v332 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_c_52 : Ref sig .tc := ⟨.hbm, 425, rfl⟩
abbrev main_v339 : Ref sig .tc := ⟨.hbm, 426, rfl⟩
abbrev main_v340 : Ref sig .tc := ⟨.hbm, 427, rfl⟩
abbrev main_v341 : Ref sig .tc := ⟨.hbm, 428, rfl⟩
abbrev main_call17_v0 : Ref sig .tc := ⟨.hbm, 429, rfl⟩
abbrev main_v342 : Ref sig .tc := ⟨.hbm, 430, rfl⟩
abbrev main_v343 : Ref sig .tc := ⟨.hbm, 431, rfl⟩
abbrev main_v344 : Ref sig .tc := ⟨.hbm, 432, rfl⟩
abbrev main_cst_53 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_cst_54 : Ref sig .tc := ⟨.hbm, 440, rfl⟩
abbrev main_v351 : Ref sig .tc := ⟨.hbm, 441, rfl⟩
abbrev main_v352 : Ref sig .tc := ⟨.hbm, 442, rfl⟩
abbrev main_cst_55 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_call18_cst : Ref sig .tc := ⟨.hbm, 453, rfl⟩
abbrev main_call18_v0 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_v365 : Ref sig .tc := ⟨.hbm, 458, rfl⟩
abbrev main_v366 : Ref sig .tc := ⟨.hbm, 459, rfl⟩
abbrev main_v367 : Ref sig .tc := ⟨.hbm, 460, rfl⟩
abbrev main_cst_56 : Ref sig .tc := ⟨.hbm, 461, rfl⟩
abbrev main_v368 : Ref sig .tc := ⟨.hbm, 462, rfl⟩
abbrev main_v369 : Ref sig .tc := ⟨.hbm, 463, rfl⟩
abbrev main_cst_57 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_c_58 : Ref sig .tc := ⟨.hbm, 472, rfl⟩
abbrev main_v377 : Ref sig .tc := ⟨.hbm, 473, rfl⟩
abbrev main_v378 : Ref sig .tc := ⟨.hbm, 474, rfl⟩
abbrev main_v379 : Ref sig .tc := ⟨.hbm, 475, rfl⟩
abbrev main_call19_v0 : Ref sig .tc := ⟨.hbm, 476, rfl⟩
abbrev main_v380 : Ref sig .tc := ⟨.hbm, 477, rfl⟩

abbrev nD : Nat := 1
abbrev τ : Topo := Topo.v7x

variable {F : FTy → Type} [FloatOps F]
-- ==== Proof.Row.lean ====
/- One update of one memory slot, as extended-real arithmetic on rows of 128 numbers: the two ways of
   writing it (the reference's and the kernel's) and the theorem that they agree when the encoded sentence
   and the slot's contents are real numbers. Nothing here mentions a program. -/
module

public import Idealize.ShloMosaic.PureOps
public import Idealize.ShloMosaic.Lib.IdealHost

@[expose] public section

noncomputable section

namespace Cert.EntNet

open Idealize.ShloMosaic

/-- A row of 128 extended reals. -/
abbrev Row := Fin 128 → EReal

/-- A 128 × 128 matrix of extended reals. -/
abbrev Mat := Fin 128 → Fin 128 → EReal

/-- The small constant added under the square root. -/
def eps : EReal := Ideal.ofBits .f32 0x2B8CBCCC#32

/-- Every entry of a row is a real number. -/
def IsReal (x : Row) : Prop := ∀ d, ∃ r : ℝ, x d = (r : EReal)

/-- The candidate row: the rectified sum of the three linear images, of the slot's contents `h`, of its key
    `k` and of the sentence `enc`. -/
def cand (U V W : Mat) (k enc h : Row) : Row := fun d =>
  max ((∑ j, h j * U d j) + (∑ j, k j * V d j) + ∑ j, enc j * W d j) 0

/-- The contents after the gated step, before normalization, for a given gate argument. -/
def gated (U V W : Mat) (k enc h : Row) (a : EReal) : Row := fun d =>
  h d + Ideal.logistic a * cand U V W k enc h d

/-- The sum of the squares of a row. -/
def ssq (x : Row) : EReal := ∑ j, x j * x j

/-- The row before normalization, with the gate's argument as the reference writes it: two inner products. -/
def refPre (U V W : Mat) (k enc h : Row) : Row :=
  gated U V W k enc h ((∑ j, enc j * h j) + ∑ j, enc j * k j)

/-- The row before normalization, with the gate's argument as the kernel writes it: one sum over `(h + k) · enc`. -/
def kerPre (U V W : Mat) (k enc h : Row) : Row :=
  gated U V W k enc h (∑ j, (h j + k j) * enc j)

/-- The reference's update of one slot: the normalized row where the sentence is present, the old row elsewhere. -/
def refRow (U V W : Mat) (k enc : Row) (present : Prop) [Decidable present] (h : Row) : Row := fun d =>
  if present then Ideal.div (refPre U V W k enc h d) (Ideal.sqrt (ssq (refPre U V W k enc h) + eps)) else h d

/-- The kernel's update of one slot: the old row moved towards the normalized row by the weight `w`. -/
def kerRow (U V W : Mat) (k enc : Row) (w : EReal) (h : Row) : Row := fun d =>
  h d + w * (kerPre U V W k enc h d * Ideal.rsqrt (ssq (kerPre U V W k enc h) + eps) - h d)

/-- The constant under the square root is a positive real number. -/
theorem eps_real : ∃ r : ℝ, 0 < r ∧ eps = (r : EReal) := by
  refine ⟨(2 ^ 23 + 834764 : ℕ) * (2 : ℝ) ^ (-63 : ℤ), by positivity, ?_⟩
  simp [eps, Ideal.ofBits, Ideal.ieee, -EReal.coe_mul]

/-- A real factor distributes over the sum of a real number and any extended real. -/
theorem add_mul_of_real (h e : ℝ) (k : EReal) :
    ((h : EReal) + k) * (e : EReal) = (e : EReal) * (h : EReal) + (e : EReal) * k := by
  induction k using EReal.rec with
  | coe r => norm_cast; ring
  | bot =>
    rw [EReal.add_bot]
    rcases lt_trichotomy e 0 with he | he | he
    · rw [EReal.bot_mul_coe_of_neg he, EReal.coe_mul_bot_of_neg he, ← EReal.coe_mul, EReal.coe_add_top]
    · subst he; simp
    · rw [EReal.bot_mul_coe_of_pos he, EReal.coe_mul_bot_of_pos he, EReal.add_bot]
  | top =>
    rw [EReal.coe_add_top]
    rcases lt_trichotomy e 0 with he | he | he
    · rw [EReal.top_mul_coe_of_neg he, EReal.coe_mul_top_of_neg he, EReal.add_bot]
    · subst he; simp
    · rw [EReal.top_mul_coe_of_pos he, EReal.coe_mul_top_of_pos he, ← EReal.coe_mul, EReal.coe_add_top]

/-- The kernel's gate argument is the reference's when the sentence and the slot hold real numbers; the key may
    hold anything. -/
theorem kerPre_eq_refPre (U V W : Mat) (k enc h : Row) (he : IsReal enc) (hh : IsReal h) :
    kerPre U V W k enc h = refPre U V W k enc h := by
  unfold kerPre refPre
  rw [← Finset.sum_add_distrib]
  refine congrArg _ (Finset.sum_congr rfl fun j _ => ?_)
  obtain ⟨e, he⟩ := he j
  obtain ⟨r, hr⟩ := hh j
  rw [he, hr, add_mul_of_real]

/-- A square is not negative. -/
theorem mul_self_nonneg' (x : EReal) : 0 ≤ x * x := by
  rcases le_total 0 x with h | h
  · exact EReal.mul_nonneg h h
  · exact EReal.mul_nonneg_iff.mpr (Or.inr ⟨h, h⟩)

/-- The sum of squares is not negative. -/
theorem ssq_nonneg (x : Row) : 0 ≤ ssq x := Finset.sum_nonneg fun j _ => mul_self_nonneg' (x j)

/-- The number under the square root is `⊤` or a positive real. -/
theorem under_root (x : Row) : ssq x + eps = ⊤ ∨ ∃ r : ℝ, 0 < r ∧ ssq x + eps = (r : EReal) := by
  obtain ⟨q, hq, he⟩ := eps_real
  have h0 := ssq_nonneg x
  generalize ssq x = s at h0 ⊢
  rw [he]
  induction s using EReal.rec with
  | bot => simp at h0
  | top => exact Or.inl (EReal.top_add_coe q)
  | coe r =>
    refine Or.inr ⟨r + q, ?_, by norm_cast⟩
    have : 0 ≤ r := by exact_mod_cast h0
    linarith

/-- Multiplying by the reciprocal square root is dividing by the square root, at `⊤` and at positive reals. -/
theorem mul_rsqrt_eq_div (x y : EReal) (hy : y = ⊤ ∨ ∃ r : ℝ, 0 < r ∧ y = (r : EReal)) :
    x * Ideal.rsqrt y = Ideal.div x (Ideal.sqrt y) := by
  rcases hy with rfl | ⟨r, hr, rfl⟩
  · show x * (0 : EReal) = if (⊤ : EReal) = 0 then _ else x * (⊤ : EReal)⁻¹
    rw [if_neg (by decide +revert), EReal.inv_top]
  · have hs : 0 < Real.sqrt r := Real.sqrt_pos.mpr hr
    show x * (if r < 0 then (⊥ : EReal) else if r = 0 then ⊤ else (((Real.sqrt r)⁻¹ : ℝ) : EReal))
      = Ideal.div x (if r < 0 then (⊥ : EReal) else ((Real.sqrt r : ℝ) : EReal))
    rw [if_neg hr.not_gt, if_neg hr.ne', if_neg hr.not_gt, Ideal.div, if_neg (by exact_mod_cast hs.ne'),
      EReal.coe_inv]

/-- The normalized row holds real numbers, whatever the row before it holds: an infinite entry makes the sum of
    squares infinite, and its reciprocal square root zero. -/
theorem normalized_real (x : Row) (d : Fin 128) : ∃ r : ℝ, x d * Ideal.rsqrt (ssq x + eps) = (r : EReal) := by
  rcases under_root x with h | ⟨r, hr, h⟩
  · exact ⟨0, by rw [h]; show x d * (0 : EReal) = _; simp⟩
  · have hx : x d * x d ≠ ⊤ := by
      intro ht
      have hle : x d * x d ≤ ssq x :=
        Finset.single_le_sum (f := fun j => x j * x j) (fun j _ => mul_self_nonneg' (x j)) (Finset.mem_univ d)
      rw [ht, top_le_iff] at hle
      obtain ⟨q, -, he⟩ := eps_real
      rw [hle, he, EReal.top_add_coe] at h
      exact EReal.top_ne_coe r h
    have hs : Ideal.rsqrt (ssq x + eps) = (((Real.sqrt r)⁻¹ : ℝ) : EReal) := by
      rw [h]
      show (if r < 0 then (⊥ : EReal) else if r = 0 then ⊤ else (((Real.sqrt r)⁻¹ : ℝ) : EReal)) = _
      rw [if_neg hr.not_gt, if_neg hr.ne']
    rw [hs]
    generalize x d = y at hx ⊢
    induction y using EReal.rec with
    | bot => exact absurd EReal.bot_mul_bot hx
    | top => exact absurd EReal.top_mul_top hx
    | coe a => exact ⟨a * (Real.sqrt r)⁻¹, by norm_cast⟩

/-- Moving a real number the whole way to another real arrives there. -/
theorem blend_one (a b : ℝ) : (a : EReal) + 1 * ((b : EReal) - (a : EReal)) = (b : EReal) := by
  rw [one_mul]; norm_cast; ring

/-- The kernel's update with weight one or zero is the reference's update where the sentence is present or absent,
    when the sentence and the slot hold real numbers. -/
theorem kerRow_eq_refRow (U V W : Mat) (k enc h : Row) (present : Prop) [Decidable present]
    (he : IsReal enc) (hh : IsReal h) :
    kerRow U V W k enc (if present then 1 else 0) h = refRow U V W k enc present h := by
  funext d
  unfold kerRow refRow
  rw [kerPre_eq_refPre U V W k enc h he hh]
  by_cases hp : present
  · rw [if_pos hp, if_pos hp, ← mul_rsqrt_eq_div _ _ (under_root _)]
    obtain ⟨a, ha⟩ := hh d
    obtain ⟨b, hb⟩ := normalized_real (refPre U V W k enc h) d
    rw [hb, ha, blend_one]
  · rw [if_neg hp, if_neg hp, zero_mul, add_zero]

/-- The updated row holds real numbers again. -/
theorem refRow_real (U V W : Mat) (k enc h : Row) (present : Prop) [Decidable present] (hh : IsReal h) :
    IsReal (refRow U V W k enc present h) := by
  intro d
  unfold refRow
  by_cases hp : present
  · rw [if_pos hp, ← mul_rsqrt_eq_div _ _ (under_root _)]
    exact normalized_real _ d
  · rw [if_neg hp]; exact hh d

/-- The row of zeros holds real numbers. -/
theorem zero_real : IsReal fun _ => 0 := fun _ => ⟨0, rfl⟩

/-- A finite sum of real numbers is a real number. -/
theorem sum_real {n : ℕ} (f : Fin n → EReal) (hf : ∀ l, ∃ r : ℝ, f l = (r : EReal)) :
    ∃ r : ℝ, ∑ l, f l = (r : EReal) := by
  refine Finset.sum_induction f (fun x => ∃ r : ℝ, x = (r : EReal)) ?_ ⟨0, rfl⟩ fun l _ => hf l
  rintro _ _ ⟨a, rfl⟩ ⟨b, rfl⟩
  exact ⟨a + b, rfl⟩

/-- A bit as a number: one where it is set, zero elsewhere. -/
theorem bit_weight (b : BitVec 1) : ((b.toNat : ℝ) : EReal) = if b = 1#1 then 1 else 0 := by
  rcases BitVec.eq_zero_or_eq_one b with rfl | rfl <;> simp

/-- A slot's contents after the first `n` of ten sentences, by the reference's update; `bit i` says whether sentence
    `i` is present. -/
def refSlot (U V W : Mat) (k : Row) (enc : Fin 10 → Row) (bit : Fin 10 → BitVec 1) : ℕ → Row
  | 0 => fun _ => 0
  | n + 1 => refRow U V W k (enc (Fin.ofNat 10 n)) (bit (Fin.ofNat 10 n) = 1#1) (refSlot U V W k enc bit n)

/-- A slot's contents after the first `n` of ten sentences, by the kernel's update; `w i` is sentence `i`'s weight. -/
def kerSlot (U V W : Mat) (k : Row) (enc : Fin 10 → Row) (w : Fin 10 → EReal) : ℕ → Row
  | 0 => fun _ => 0
  | n + 1 => kerRow U V W k (enc (Fin.ofNat 10 n)) (w (Fin.ofNat 10 n)) (kerSlot U V W k enc w n)

/-- The reference keeps every slot real. -/
theorem refSlot_real (U V W : Mat) (k : Row) (enc : Fin 10 → Row) (bit : Fin 10 → BitVec 1) (n : ℕ) :
    IsReal (refSlot U V W k enc bit n) := by
  induction n with
  | zero => exact zero_real
  | succ n ih => exact refRow_real U V W k _ _ _ ih

/-- With real encoded sentences, and the presence bits as the weights, the two updates agree after any number of
    sentences. -/
theorem kerSlot_eq_refSlot (U V W : Mat) (k : Row) (enc : Fin 10 → Row) (bit : Fin 10 → BitVec 1)
    (he : ∀ i, IsReal (enc i)) (n : ℕ) :
    kerSlot U V W k enc (fun i => (((bit i).toNat : ℝ) : EReal)) n = refSlot U V W k enc bit n := by
  induction n with
  | zero => rfl
  | succ n ih =>
    rw [kerSlot, refSlot, ih, bit_weight]
    exact kerRow_eq_refRow U V W k _ _ _ (he _) (refSlot_real U V W k enc bit n)

end Cert.EntNet

end
-- ==== Proof.Block.lean ====
/- What one grid point of the kernel computes: its output block is ten applications of one step, and the step, read
   at one entry, is the update of one slot. -/
module

public import proofs.«01_k».proof.Proof.Row
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.EntNet

open Idealize.ShloMosaic Idealize.SL.Sem Cert.KernelIdeal.Gen Cert.EntNet

/-! ## The ten steps -/

/-- Sentence `i` of a block: its rows `20 i` to `20 i + 19`. -/
def sentence (x0 : Vec Ideal S128x200x128 .f32) (i : Fin 10) : Vec Ideal S128x20x128 .f32 :=
  View.ld x0 (Rect.unit (s := S128x200x128) ![0, 20 * (i : ℕ), 0] S128x20x128.size (by
    intro a; have := i.isLt; fin_cases a <;> simp <;> omega))

/-- Column `i` of a block of weights. -/
def weight (x1 : Vec Ideal S128x10 .f32) (i : Fin 10) : Vec Ideal S128x1 .f32 :=
  View.ld x1 (Rect.unit (s := S128x10) ![0, (i : ℕ)] S128x1.size (by
    intro a; have := i.isLt; fin_cases a <;> simp <;> omega))

/-- One step of the kernel on a block of slots `h`: keys `K`, matrices `U`, `V`, `W`, one sentence `p` and its
    weights `w`. -/
def kstep (K : Vec Ideal S2560x128 .f32) (U V W : Vec Ideal S128x128 .f32) (h : FVec Ideal S2560x128 .f32)
    (p : Vec Ideal S128x20x128 .f32) (w : Vec Ideal S128x1 .f32) : FVec Ideal S2560x128 .f32 :=
  k0_pay7 (k0_pay2 K) U W (k0_pay3 K V) k0_pay4 k0_pay5 h p w

/-- The block of slots after the first `n` sentences. -/
def kiter (x0 : Vec Ideal S128x200x128 .f32) (x1 : Vec Ideal S128x10 .f32) (K : Vec Ideal S2560x128 .f32)
    (U V W : Vec Ideal S128x128 .f32) : ℕ → FVec Ideal S2560x128 .f32
  | 0 => k0_pay6
  | n + 1 => kstep K U V W (kiter x0 x1 K U V W n) (sentence x0 (Fin.ofNat 10 n)) (weight x1 (Fin.ofNat 10 n))

section Steps

variable (v1 v5 S cst h : FVec Ideal S2560x128 .f32) (E : FVec Ideal S128x128 .f32) (U W : Vec Ideal S128x128 .f32)
  (p p' p'' : Vec Ideal S128x20x128 .f32) (w w' w'' : Vec Ideal S128x1 .f32)
  (a b c : FVec Ideal S2560x128 .f32) (e : FVec Ideal S128x128 .f32)

/-- The kernel's second step, cut in two by the printed program, is the step. -/
theorem step1 : k0_pay12 v5 S E (k0_pay7 v1 U W v5 S E h p w) (k0_pay9 v1 U W v5 S E h p w) (k0_pay10 W S p')
    (k0_pay11 v1 U W v5 S E h p w p') (constant S2560x128 .f32 0x00000000#32) w'
      = k0_pay7 v1 U W v5 S E (k0_pay7 v1 U W v5 S E h p w) p' w' := rfl

/-- The third and fourth steps. -/
theorem step23 : k0_pay16 v1 U W v5 S E (k0_pay12 v5 S E h a b c cst w)
    (k0_pay13 v1 U W v5 S E h a b c cst w p) (k0_pay14 v1 U W v5 S E h a b c cst w p) k0_pay15 w' p' w''
      = k0_pay7 v1 U W v5 S E (k0_pay7 v1 U W v5 S E (k0_pay12 v5 S E h a b c cst w) p w') p' w'' := rfl

/-- The fifth step. -/
theorem step4 : k0_pay17 v1 U W v5 S E h p w = k0_pay7 v1 U W v5 S E h p w := rfl

/-- The sixth step. -/
theorem step5 : k0_pay22 v1 v5 S E (k0_pay17 v1 U W v5 S E h p w) (k0_pay19 S p') (k0_pay20 v1 U W v5 S E h p w)
    (k0_pay21 W p') (constant S2560x128 .f32 0x00000000#32) w'
      = k0_pay7 v1 U W v5 S E (k0_pay17 v1 U W v5 S E h p w) p' w' := rfl

/-- The seventh step. -/
theorem step6 : k0_pay25 S E (k0_pay22 v1 v5 S E h a b e cst w) (k0_pay23 v1 U W v5 S E h a b e cst w p)
    (k0_pay24 v1 U W v5 S E h a b e cst w p) w'
      = k0_pay7 v1 U W v5 S E (k0_pay22 v1 v5 S E h a b e cst w) p w' := rfl

/-- The eighth and ninth steps. -/
theorem step78 : k0_pay28 v1 U W v5 S E (k0_pay25 S E h a b w) (k0_pay26 v1 U W v5 S E h a b w p) (k0_pay27 w')
    (constant S2560x128 .f32 0x00000000#32) p' w''
      = k0_pay7 v1 U W v5 S E (k0_pay7 v1 U W v5 S E (k0_pay25 S E h a b w) p w') p' w'' := rfl

/-- The last step. -/
theorem step9 : k0_pay1 v1 U W v5 S E h (k0_pay29 p) (k0_pay30 S p) (constant S2560x128 .f32 0x00000000#32) w
      = k0_pay7 v1 U W v5 S E h p w := rfl

end Steps

/-- The output block is the ten steps applied to zero. -/
theorem out0_6_eq (x0 : Vec Ideal S128x200x128 .f32) (x1 : Vec Ideal S128x10 .f32) (x2 : Vec Ideal S2560x128 .f32)
    (x3 x4 x5 : Vec Ideal S128x128 .f32) : out0_6 x0 x1 x2 x3 x4 x5 = kiter x0 x1 x2 x3 x4 x5 10 := by
  have h2 : View.ld x2 r0_0 = x2 := by frame_out
  have h3 : View.ld x3 r0_1 = x3 := by frame_out
  have h4 : View.ld x4 r0_1 = x4 := by frame_out
  have h5 : View.ld x5 r0_1 = x5 := by frame_out
  unfold_out out0_6
  rw [step9, step78, step6, step5, step4, step23, step1, h2, h3, h4, h5]
  frame_out
  rfl

/-! ## A step at an entry -/

/-- Floor division of a word below 2560 by twenty, as the kernel computes it, is the division of the number. -/
theorem row_word : ∀ r : Fin 2560, Scalar.select
    (IntOp.andi
      (IntOp.cmpi CmpIPredicate.ne
        (IntOp.subi (BitVec.setWidth 32 (IntOp.cmpi CmpIPredicate.sgt (BitVec.ofNat 32 r) 0#32))
          (BitVec.setWidth 32 (IntOp.cmpi CmpIPredicate.slt (BitVec.ofNat 32 r) 0#32)))
        (Scalar.subi (Scalar.extui (Scalar.cmpi CmpIPredicate.sgt 20#32 0#32))
          (Scalar.extui (Scalar.cmpi CmpIPredicate.slt 20#32 0#32))))
      (IntOp.cmpi CmpIPredicate.ne (IntOp.remsi ArithUnit.vector (BitVec.ofNat 32 r) 20#32) 0#32))
    (IntOp.subi (IntOp.divsi ArithUnit.vector (BitVec.ofNat 32 r) 20#32) 1#32)
    (IntOp.divsi ArithUnit.vector (BitVec.ofNat 32 r) 20#32) = BitVec.ofNat 32 ((r : ℕ) / 20) := by
  decide +kernel

/-- The sentence that a row of the block belongs to. -/
def batchOf (r : Fin 2560) : Fin 128 := ⟨(r : ℕ) / 20, by omega⟩

/-- The kernel's selection matrix: one where the column is the row's sentence, zero elsewhere. -/
theorem sel_apply (r : Fin 2560) (c : Fin 128) :
    k0_pay4 (F := Ideal) (ix2 r c) = if c = batchOf r then 1 else 0 := by
  have hr := r.isLt
  have hc := c.isLt
  pointwise [k0_pay4]
  rw [row_word, show IntOp.cmpi CmpIPredicate.eq (BitVec.ofNat 32 ((r : ℕ) / 20)) (BitVec.ofNat 32 (c : ℕ))
    = if c = batchOf r then 1#1 else 0#1 from ?_]
  · split
    · show ((_ : ℝ) : EReal) = _
      norm_num
    · show ((_ : ℝ) : EReal) = _
      norm_num
  · have : (BitVec.ofNat 32 ((r : ℕ) / 20) = BitVec.ofNat 32 (c : ℕ)) ↔ c = batchOf r := by
      rw [← BitVec.toNat_inj, BitVec.toNat_ofNat, BitVec.toNat_ofNat, Fin.ext_iff, batchOf]
      simp only
      omega
    show BitVec.ofBool (decide _) = _
    simp only [this]
    by_cases h : c = batchOf r <;> simp [h]

/-- A row of the selection matrix picks one summand. -/
theorem sel_sum (r : Fin 2560) (f : Fin 128 → EReal) :
    ∑ c, k0_pay4 (F := Ideal) (ix2 r c) * f c = f (batchOf r) := by
  simp only [sel_apply, ite_mul, one_mul, zero_mul, Finset.sum_ite_eq', Finset.mem_univ, if_true]

/-- A step, at row `r`, is the kernel's update of one slot. -/
theorem kstep_row (K : Vec Ideal S2560x128 .f32) (U V W : Vec Ideal S128x128 .f32) (h : FVec Ideal S2560x128 .f32)
    (p : Vec Ideal S128x20x128 .f32) (w : Vec Ideal S128x1 .f32) (r : Fin 2560) (d : Fin 128) :
    kstep K U V W h p w (ix2 r d)
      = kerRow (fun d j => U (ix2 d j)) (fun d j => V (ix2 d j)) (fun d j => W (ix2 d j)) (fun j => K (ix2 r j))
        (fun j => ∑ l : Fin 20, p (ix3 (batchOf r) l j)) (w (ix2 (batchOf r) 0)) (fun j => h (ix2 r j)) d := by
  have hsel := sel_sum r
  unfold kstep
  generalize k0_pay4 (F := Ideal) = S at hsel ⊢
  pointwise [k0_pay7, k0_pay2, k0_pay3, k0_pay5]
  simp only [hsel]
  rfl

/-- A sentence's entry, in the block. -/
theorem sentence_apply (x0 : Vec Ideal S128x200x128 .f32) (i : Fin 10) (b : Fin 128) (l : Fin 20) (d : Fin 128) :
    sentence x0 i (ix3 b l d) = x0 (ix3 b ⟨20 * i + l, by omega⟩ d) := by
  unfold sentence
  pointwise

/-- A weight, in the block. -/
theorem weight_apply (x1 : Vec Ideal S128x10 .f32) (i : Fin 10) (b : Fin 128) :
    weight x1 i (ix2 b 0) = x1 (ix2 b i) := by
  unfold weight
  pointwise

/-- Row `r` of the block after `n` sentences is the kernel's slot after `n` sentences. -/
theorem kiter_row (x0 : Vec Ideal S128x200x128 .f32) (x1 : Vec Ideal S128x10 .f32) (K : Vec Ideal S2560x128 .f32)
    (U V W : Vec Ideal S128x128 .f32) (n : ℕ) (r : Fin 2560) (d : Fin 128) :
    kiter x0 x1 K U V W n (ix2 r d)
      = kerSlot (fun d j => U (ix2 d j)) (fun d j => V (ix2 d j)) (fun d j => W (ix2 d j)) (fun j => K (ix2 r j))
        (fun i j => ∑ l : Fin 20, x0 (ix3 (batchOf r) ⟨20 * i + l, by omega⟩ j)) (fun i => x1 (ix2 (batchOf r) i)) n d := by
  induction n generalizing d with
  | zero => unfold kiter kerSlot; pointwise [k0_pay6]
  | succ n ih =>
    unfold kiter kerSlot
    rw [kstep_row, weight_apply]
    simp only [sentence_apply, ih]

end Cert.KernelIdeal.EntNet

end
-- ==== Proof.Array.lean ====
/- What the kernel's output array holds after the run, in terms of the arguments, and the kernel's run. -/
module

public import proofs.«01_k».proof.Proof.Block
public import Idealize.ShloMosaic.Lib.Claim

@[expose] public section

set_option maxRecDepth 16384

noncomputable section

namespace Cert.KernelIdeal.EntNet

open Idealize.ShloMosaic Idealize.ShloMosaic.TcCoe Idealize.SL.Sem Cert.KernelIdeal.Gen Cert.EntNet

/-- A slot after ten sentences by the kernel's update, from the six arguments: batch element `b`, slot `e`. -/
def kslot (P : FVec Ideal S512x10x20x128 .f32) (M : IVec S512x10x20 32) (K : FVec Ideal S512x20x128 .f32)
    (U V W : FVec Ideal S128x128 .f32) (b : Fin 512) (e : Fin 20) : Row :=
  kerSlot (fun d j => U (ix2 d j)) (fun d j => V (ix2 d j)) (fun d j => W (ix2 d j)) (fun j => K (ix3 b e j))
    (fun i j => ∑ l : Fin 20, P (ix4 b i l j))
    (fun i => (((IntOp.cmpi .sgt (M (ix3 b i 0)) 0#32).toNat : ℝ) : EReal)) 10

variable (m : (ℓ : Loc nD τ sig) → Buf (Elt Ideal) ℓ) (c : Dev nD)

/-- The region finds the sentences regrouped: row `20 i + l` of a batch element is word `l` of sentence `i`. -/
theorem entry_p (b : Fin 512) (x : Fin 200) (d : Fin 128) : V m c main_v6 (ix3 b x d)
    = m ((c.tc : Thread nD τ).loc main_arg0) (ix4 b ⟨x / 20, by omega⟩ ⟨x % 20, by omega⟩ d) := by
  simp only [V, V0, hostOps0, List.flatten_cons, List.flatten_nil, List.append_nil]
  after_results
  pointwise

/-- The region finds the weights: one where a sentence's first mask entry is positive, zero elsewhere. -/
theorem entry_w (b : Fin 512) (i : Fin 10) : V m c main_v4 (ix2 b i)
    = (((IntOp.cmpi .sgt (m ((c.tc : Thread nD τ).loc main_arg1) (ix3 b i 0)) 0#32).toNat : ℝ) : EReal) := by
  simp only [V, V0, hostOps0, List.flatten_cons, List.flatten_nil, List.append_nil]
  after_results
  pointwise
  rfl

/-- The region finds the keys as a matrix: row `R` is the key of slot `R % 20` of batch element `R / 20`. -/
theorem entry_k (R : Fin 10240) (d : Fin 128) : V m c main_v5 (ix2 R d)
    = m ((c.tc : Thread nD τ).loc main_arg2) (ix3 ⟨R / 20, by omega⟩ ⟨R % 20, by omega⟩ d) := by
  simp only [V, V0, hostOps0, List.flatten_cons, List.flatten_nil, List.append_nil]
  after_results
  pointwise

/-- The windows' block indices: the first three and the output move with the grid point, the matrices stay. -/
theorem idx : ∀ t : Fin cfg0.N, win0_0.index t = ![(t : ℕ), 0, 0] ∧ win0_1.index t = ![(t : ℕ), 0]
    ∧ win0_2.index t = ![(t : ℕ), 0] ∧ win0_3.index t = ![0, 0] ∧ win0_4.index t = ![0, 0] ∧ win0_5.index t = ![0, 0]
    ∧ win0_6.index t = ![(t : ℕ), 0] := by decide +kernel

/-- There are four grid points. -/
theorem point_lt (t : Fin cfg0.N) : (t : ℕ) < 4 := t.isLt

/-- Grid point `t`'s block of sentences. -/
theorem block_p (t : Fin cfg0.N) (b : Fin 128) (x : Fin 200) (d : Fin 128) : iblk m c 0 t (ix3 b x d)
    = V m c main_v6 (ix3 ⟨128 * t + b, by have := point_lt t; omega⟩ x d) := by
  blk_ext [iblk, idx t]

/-- Grid point `t`'s block of weights. -/
theorem block_w (t : Fin cfg0.N) (b : Fin 128) (i : Fin 10) : iblk m c 1 t (ix2 b i)
    = V m c main_v4 (ix2 ⟨128 * t + b, by have := point_lt t; omega⟩ i) := by
  blk_ext [iblk, idx t]

/-- Grid point `t`'s block of keys. -/
theorem block_k (t : Fin cfg0.N) (r : Fin 2560) (d : Fin 128) : iblk m c 2 t (ix2 r d)
    = V m c main_v5 (ix2 ⟨2560 * t + r, by have := point_lt t; omega⟩ d) := by
  blk_ext [iblk, idx t]

/-- Every grid point reads the whole matrix `U`. -/
theorem block_u (t : Fin cfg0.N) (d j : Fin 128) :
    iblk m c 3 t (ix2 d j) = m ((c.tc : Thread nD τ).loc main_arg3) (ix2 d j) := by
  rw [← V_main_arg3 m c]
  blk_ext [iblk, idx t]

/-- Every grid point reads the whole matrix `V`. -/
theorem block_v (t : Fin cfg0.N) (d j : Fin 128) :
    iblk m c 4 t (ix2 d j) = m ((c.tc : Thread nD τ).loc main_arg4) (ix2 d j) := by
  rw [← V_main_arg4 m c]
  blk_ext [iblk, idx t]

/-- Every grid point reads the whole matrix `W`. -/
theorem block_m (t : Fin cfg0.N) (d j : Fin 128) :
    iblk m c 5 t (ix2 d j) = m ((c.tc : Thread nD τ).loc main_arg5) (ix2 d j) := by
  rw [← V_main_arg5 m c]
  blk_ext [iblk, idx t]

/-- The kernel's slots, from the contents of the argument buffers. -/
def kresult (b : Fin 512) (e : Fin 20) : Row :=
  kslot (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) b e

/-- The output array after the run: row `R` is slot `R % 20` of batch element `R / 20`. -/
def karray : FVec Ideal S10240x128 .f32 := fun i =>
  kresult m c ⟨(i 0 : ℕ) / 20, by have : (i 0 : ℕ) < 10240 := (i 0).isLt; omega⟩ ⟨(i 0 : ℕ) % 20, by omega⟩ (i 1)

/-- The block that grid point `t` writes holds its part of the output array. -/
theorem block_out (t : Fin cfg0.N) (r : Fin 2560) (d : Fin 128) :
    out0_6 (iblk m c 0 t) (iblk m c 1 t) (iblk m c 2 t) (iblk m c 3 t) (iblk m c 4 t) (iblk m c 5 t) (ix2 r d)
      = karray m c (ix2 ⟨2560 * t + r, by have := point_lt t; omega⟩ d) := by
  have ht := point_lt t
  have hb : (⟨(2560 * (t : ℕ) + r) / 20, by omega⟩ : Fin 512) = ⟨128 * t + batchOf r, by omega⟩ := by
    ext; simp only [batchOf]; omega
  have h1 : ∀ (i : Fin 10) (l : Fin 20), (20 * (i : ℕ) + l) / 20 = i := by omega
  have h2 : ∀ (i : Fin 10) (l : Fin 20), (20 * (i : ℕ) + l) % 20 = l := by omega
  have hK (j : Fin 128) := (block_k m c t r j).trans (entry_k m c _ j)
  have hw (i : Fin 10) := (block_w m c t (batchOf r) i).trans (entry_w m c _ i)
  have hp (i : Fin 10) (l : Fin 20) (j : Fin 128) :=
    (block_p m c t (batchOf r) ⟨20 * i + l, by omega⟩ j).trans (entry_p m c _ _ j)
  change _ = kresult m c ⟨(2560 * (t : ℕ) + r) / 20, by omega⟩ ⟨(2560 * (t : ℕ) + r) % 20, by omega⟩ d
  rw [out0_6_eq, kiter_row]
  simp only [kresult, kslot, block_u, block_v, block_m, hK, hw, hp, h1, h2, hb]

/-- The output array after the last grid point. -/
theorem arr : (dats m 0 c).arrAt 6 (cfgs 0).N = karray m c := by
  refine (dats m 0 c).arrAt_eq_of_covers 6 _ (by decide +kernel) fun t hf y => ?_
  blk_simp
  rw [after0_6]
  idx_vars y
  rw [block_out]
  blk_ext [idx t]

/-- The result is the output array regrouped by batch element and slot. -/
theorem result_eq : Pipeline.afterTail₀ cfgs (dats m) 0 (V0 m) [hostOps1] c main_v8
    = (fun i => kresult m c (i 0) (i 1) (i 2) : FVec Ideal S512x20x128 .f32) := by
  have hv : Pipeline.withArrays (cfgs 0).spec c (V0 m c) (fun w => (dats m 0 c).arrAt w (cfgs 0).N) (Proc.devRef .tc main_v7)
      = karray m c := (Pipeline.withArrays_arr _ winFacts0.arr_inj c _ _ 6).trans (arr m c)
  simp only [Pipeline.afterTail₀, hostOps1, List.flatten_cons, List.flatten_nil, List.append_nil]
  after_results
  rw [hv]
  funext i
  change shapeCast S512x20x128 (karray m c) shapeCasts_S10240x128_S512x20x128 i = _
  idx_vars i
  pointwise [karray]
  have h0 : (⟨(i0 * 20 + i1 : ℕ) / 20, by omega⟩ : Fin 512) = i0 := by ext; simp only; omega
  have h1 : (⟨(i0 * 20 + i1 : ℕ) % 20, by omega⟩ : Fin 20) = i1 := by ext; simp only; omega
  rw [h0, h1]

/-- The kernel's run: the result holds the slots after ten sentences, and the arguments keep their contents. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
          = (fun i => kresult m c (i 0) (i 1) (i 2) : FVec Ideal S512x20x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  run_from Gen.run_main m ρ
  · exact result_eq m c
  · exact W_main_arg0 m (dats m) c
  · exact W_main_arg1 m (dats m) c
  · exact W_main_arg2 m (dats m) c

end Cert.KernelIdeal.EntNet

end
-- ==== Proof.Model.lean ====
/- What the reference computes: its printed term is ten applications of one step, and the step, read at one entry, is
   the update of one slot. -/
module

public import proofs.«01_k».proof.Proof.Row
public import proofs.«01_k».proof.Proof.Gen.ReferenceIdeal.Run
public import Idealize.ShloMosaic.Lib.Pointwise

@[expose] public section

set_option maxRecDepth 16384

noncomputable section

namespace Cert.ReferenceIdeal.EntNet

open Cert.ReferenceIdeal Cert.ReferenceIdeal.Gen Cert.ReferenceIdeal.Value Idealize.ShloMosaic Idealize.ShloMosaic.TcCoe
  Idealize.SL.Sem Idealize.ShloMosaic.StableHlo Cert.EntNet

/-- Cutting out one of the ten sentences is within the array. -/
theorem slices_sentence : ∀ i : Fin 10, S512x10x20x128.Slices ![0, (i : ℕ), 0, 0] S512x1x20x128 := by decide

/-- Cutting out the first mask entry of one of the ten sentences is within the array. -/
theorem slices_mask : ∀ i : Fin 10, S512x10x20.Slices ![0, (i : ℕ), 0] S512x1x1 := by decide

/-- The encoded sentence `i` of every batch element: the sum of its word vectors. -/
def renc (P : FVec Ideal S512x10x20x128 .f32) (i : Fin 10) : FVec Ideal S512x128 .f32 :=
  Host.reduceAdd (shapeCast S512x20x128 (extractStridedSlice S512x1x20x128 ![0, (i : ℕ), 0, 0] P (slices_sentence i))
      shapeCasts_S512x1x20x128_S512x20x128)
    (constant S_ .f32 0x00000000#32) reducesTo_S512x20x128_S512x128_d1 h_S_

/-- The row before normalization, for every slot: contents `h`, encoded sentence `enc`, keys `K`. -/
def rpre (K : FVec Ideal S512x20x128 .f32) (U V W : FVec Ideal S128x128 .f32) (enc : FVec Ideal S512x128 .f32)
    (h : FVec Ideal S512x20x128 .f32) : FVec Ideal S512x20x128 .f32 :=
  addf h (mulf
    (broadcastInDim S512x20x128 ![0, 1, 2] bcast_S512x20x1_S512x20x128_0_1_2
      (broadcastInDim S512x20x1 ![0, 1] bcast_S512x20_S512x20x1_0_1
        (Host.divf (broadcastInDim S512x20 ![] bcast_S_S512x20 (constant S_ .f32 0x3F800000#32))
          (addf (broadcastInDim S512x20 ![] bcast_S_S512x20 (constant S_ .f32 0x3F800000#32))
            (Host.exp (Host.negf (addf
              (Host.dotGeneral dot_S512x128_S512x20x128_S512x20_1_2_n_1_0_0 none enc h)
              (Host.dotGeneral dot_S512x128_S512x20x128_S512x20_1_2_n_1_0_0 none enc K))))))))
    (maximumf
      (addf
        (addf (Host.dotGeneral dot_S512x20x128_S128x128_S512x20x128_2_1_01_0_n_n none h U)
          (Host.dotGeneral dot_S512x20x128_S128x128_S512x20x128_2_1_01_0_n_n none K V))
        (broadcastInDim S512x20x128 ![0, 1, 2] bcast_S512x1x128_S512x20x128_0_1_2
          (broadcastInDim S512x1x128 ![0, 2] bcast_S512x128_S512x1x128_0_2
            (Host.dotGeneral dot_S512x128_S128x128_S512x128_1_1_0_0_n_n none enc W))))
      (broadcastInDim S512x20x128 ![] bcast_S_S512x20x128 (constant S_ .f32 0x00000000#32))))

/-- Normalization and choice: the normalized `x` where sentence `i` is present, `h` elsewhere. -/
def rchoose (M : IVec S512x10x20 32) (i : Fin 10) (x h : FVec Ideal S512x20x128 .f32) : FVec Ideal S512x20x128 .f32 :=
  select
    (broadcastInDim S512x20x128 ![0, 1, 2] bcast_S512x1x1_S512x20x128_0_1_2
      (broadcastInDim S512x1x1 ![0] bcast_S512_S512x1x1_0
        (cmpi .sgt
          (shapeCast S512 (extractStridedSlice S512x1x1 ![0, (i : ℕ), 0] M (slices_mask i)) shapeCasts_S512x1x1_S512)
          (broadcastInDim S512 ![] bcast_S_S512 (constantI S_ 32 0#32)))))
    (Host.divf x
      (broadcastInDim S512x20x128 ![0, 1, 2] bcast_S512x20x1_S512x20x128_0_1_2
        (Host.sqrt (addf
          (broadcastInDim S512x20x1 ![0, 1] bcast_S512x20_S512x20x1_0_1
            (Host.reduceAdd (mulf x x) (constant S_ .f32 0x00000000#32) reducesTo_S512x20x128_S512x20_d2 h_S_))
          (broadcastInDim S512x20x1 ![] bcast_S_S512x20x1 (constant S_ .f32 0x2B8CBCCC#32))))))
    h

/-- The slots after the first `n` sentences. -/
def riter (P : FVec Ideal S512x10x20x128 .f32) (M : IVec S512x10x20 32) (K : FVec Ideal S512x20x128 .f32)
    (U V W : FVec Ideal S128x128 .f32) : ℕ → FVec Ideal S512x20x128 .f32
  | 0 => broadcastInDim S512x20x128 ![] bcast_S_S512x20x128 (constant S_ .f32 0x00000000#32)
  | n + 1 => rchoose M (Fin.ofNat 10 n) (rpre K U V W (renc P (Fin.ofNat 10 n)) (riter P M K U V W n))
      (riter P M K U V W n)

/-- The arguments' slots after `n` sentences, from the contents of the argument buffers. -/
def rslots (V0 : Valuation τ sig (Elt Ideal)) (n : ℕ) : FVec Ideal S512x20x128 .f32 :=
  riter (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) n

/-- The slots after ten sentences, read off a memory's argument buffers. -/
theorem rslots_apply (m : (ℓ : Loc nD τ sig) → Buf (Elt Ideal) ℓ) (c : Dev nD) (i : S512x20x128.Idx) :
    rslots (launchContents m c) 10 i
      = riter (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) 10 i := rfl

/-- The printed reference's nine named states are the slots after one to nine sentences. -/
theorem states (V0 : Valuation τ sig (Elt Ideal)) : res_main_v342 V0 = rslots V0 9 := by
  have h1 : res_main_v38 V0 = rslots V0 1 := rfl
  have h2 : res_main_v76 V0 = rslots V0 2 := by unfold res_main_v76 res_main_v62; rw [h1]; rfl
  have h3 : res_main_v114 V0 = rslots V0 3 := by unfold res_main_v114 res_main_v100; rw [h2]; rfl
  have h4 : res_main_v152 V0 = rslots V0 4 := by unfold res_main_v152 res_main_v138; rw [h3]; rfl
  have h5 : res_main_v190 V0 = rslots V0 5 := by unfold res_main_v190 res_main_v176; rw [h4]; rfl
  have h6 : res_main_v228 V0 = rslots V0 6 := by unfold res_main_v228 res_main_v214; rw [h5]; rfl
  have h7 : res_main_v266 V0 = rslots V0 7 := by unfold res_main_v266 res_main_v252; rw [h6]; rfl
  have h8 : res_main_v304 V0 = rslots V0 8 := by unfold res_main_v304 res_main_v290; rw [h7]; rfl
  unfold res_main_v342 res_main_v328; rw [h8]; rfl

/-- The printed reference's result, the last step from the ninth state, is the slots after ten sentences. -/
theorem result (V0 : Valuation τ sig (Elt Ideal)) :
    rchoose (V0 (Proc.devRef .tc main_arg1)) 9 (res_main_v366 V0) (res_main_v342 V0) = rslots V0 10 := by
  unfold res_main_v366; rw [states]; rfl

/-- The reference's run: its result is the slots after ten sentences, and its arguments are unchanged. -/
theorem run_slots (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v380) = rslots (launchContents m c) 10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result (launchContents m c)), (h c).2⟩) (Value.run m ρ)

/-! ## A step at an entry -/

/-- An encoded sentence's entry. -/
theorem renc_apply (P : FVec Ideal S512x10x20x128 .f32) (i : Fin 10) (b : Fin 512) (d : Fin 128) :
    renc P i (ix2 b d) = ∑ l : Fin 20, P (ix4 b i l d) := by
  unfold renc
  pointwise

/-- A step, at batch element `b` and slot `e`, is the reference's update of one slot. -/
theorem rstep_row (P : FVec Ideal S512x10x20x128 .f32) (M : IVec S512x10x20 32) (K : FVec Ideal S512x20x128 .f32)
    (U V W : FVec Ideal S128x128 .f32) (i : Fin 10) (h : FVec Ideal S512x20x128 .f32) (b : Fin 512) (e : Fin 20)
    (d : Fin 128) :
    rchoose M i (rpre K U V W (renc P i) h) h (ix3 b e d)
      = refRow (fun d j => U (ix2 d j)) (fun d j => V (ix2 d j)) (fun d j => W (ix2 d j)) (fun j => K (ix3 b e j))
        (fun j => ∑ l : Fin 20, P (ix4 b i l j)) (IntOp.cmpi .sgt (M (ix3 b i 0)) 0#32 = 1#1)
        (fun j => h (ix3 b e j)) d := by
  have henc := renc_apply P i
  unfold rchoose rpre
  generalize renc P i = enc at henc ⊢
  pointwise
  simp only [henc]
  rfl

/-- Slot `(b, e)` after `n` sentences is the reference's slot after `n` sentences. -/
theorem riter_row (P : FVec Ideal S512x10x20x128 .f32) (M : IVec S512x10x20 32) (K : FVec Ideal S512x20x128 .f32)
    (U V W : FVec Ideal S128x128 .f32) (n : ℕ) (b : Fin 512) (e : Fin 20) (d : Fin 128) :
    riter P M K U V W n (ix3 b e d)
      = refSlot (fun d j => U (ix2 d j)) (fun d j => V (ix2 d j)) (fun d j => W (ix2 d j)) (fun j => K (ix3 b e j))
        (fun i j => ∑ l : Fin 20, P (ix4 b i l j)) (fun i => IntOp.cmpi .sgt (M (ix3 b i 0)) 0#32) n d := by
  induction n generalizing d with
  | zero => unfold riter refSlot; pointwise
  | succ n ih =>
    unfold riter refSlot
    rw [rstep_row]
    simp only [ih]

end Cert.ReferenceIdeal.EntNet

end
-- ==== Proof.Equation.lean ====
/- The two results are equal when every word vector is a real number, and the named precondition says so. -/
module

public import proofs.«01_k».proof.Defs
public import proofs.«01_k».proof.Proof.Array
public import proofs.«01_k».proof.Proof.Model
public import Idealize.ShloMosaic.Lib.KernelVsHost

@[expose] public section

noncomputable section

namespace Cert.EntNet

open Idealize.ShloMosaic Cert.KernelIdeal

/-- The precondition's function takes one shape fact, which holds. -/
theorem pre_facts : Cert.Pre_sentences_finite.Facts := ⟨by decide⟩

/-- An extended real whose absolute value is below plus infinity is a real number. -/
theorem real_of_abs_lt (x : Ideal .f32) (h : FloatOps.cmpf .olt (FloatOps.hostAbsf x)
    (FloatOps.ofBits (F := Ideal) .f32 0x7F800000#32) = 1#1) : ∃ r : ℝ, (x : EReal) = (r : EReal) := by
  rw [← Ideal.xori_weird_eq_hostAbsf_olt_inf] at h
  by_cases hx : (x : EReal) = ⊤ ∨ (x : EReal) = ⊥
  · have hw : FloatOps.weird x = 1#1 := by
      change BitVec.ofBool (decide ((x : EReal) = ⊤ ∨ (x : EReal) = ⊥)) = 1#1
      simp [hx]
    rw [hw] at h
    exact absurd h (by decide)
  · push Not at hx
    exact ⟨(x : EReal).toReal, (EReal.coe_toReal hx.1 hx.2).symm⟩

/-- Under the precondition every entry of every word vector is a real number. -/
theorem words_real [Cert.Pre_sentences_finite.Facts] (P : FVec Ideal S512x10x20x128 .f32) (M : IVec S512x10x20 32)
    (K : FVec Ideal S512x20x128 .f32) (U V W : FVec Ideal S128x128 .f32)
    (h : Cert.Pre_sentences_finite.fn P M K U V W = fun _ => 1#1) (b : Fin 512) (i : Fin 10) (l : Fin 20) (d : Fin 128) :
    ∃ r : ℝ, P (ix4 b i l d) = (r : EReal) :=
  real_of_abs_lt _ (congrFun h (ix4 b i l d))

/-- The kernel's slots are the reference's. -/
theorem kslot_eq_riter (P : FVec Ideal S512x10x20x128 .f32) (M : IVec S512x10x20 32)
    (K : FVec Ideal S512x20x128 .f32) (U V W : FVec Ideal S128x128 .f32)
    (hP : ∀ b i l d, ∃ r : ℝ, P (ix4 b i l d) = (r : EReal)) (b : Fin 512) (e : Fin 20) (d : Fin 128) :
    Cert.KernelIdeal.EntNet.kslot P M K U V W b e d
      = Cert.ReferenceIdeal.EntNet.riter P M K U V W 10 (ix3 b e d) := by
  rw [Cert.ReferenceIdeal.EntNet.riter_row]
  exact congrFun (kerSlot_eq_refSlot _ _ _ _ _ _ (fun i j => sum_real _ fun l => hP b i l j) 10) d

end Cert.EntNet

end
-- ==== Proof.lean ====
/- The certificate's claim: the kernel and both idealized programs run, leave their arguments and every semaphore
   counter as they found them, and the kernel's result is the reference's wherever the word vectors are real numbers. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent

@[expose] public section

noncomputable section

namespace Cert.Proof

open Idealize.ShloMosaic Idealize.SL.Sem

/-- The facts of the three programs and of the precondition's function, as instances for the claims below. -/
instance : Cert.Kernel.Facts := Cert.Kernel.Gen.facts
instance : Cert.KernelIdeal.Facts := Cert.KernelIdeal.Gen.facts
instance : Cert.ReferenceIdeal.Facts := Cert.ReferenceIdeal.Gen.facts
instance : Cert.Pre_sentences_finite.Facts := Cert.EntNet.pre_facts

/-- The reference runs and leaves its arguments unchanged; it has no semaphores, so every counter is zero. -/
theorem reference_frame : Cert.quiescent_ReferenceIdeal := fun m ρ _ =>
  (θ_run _ _ _).mono (fun r h => ⟨fun c => (h c).2, sem_eq_zero_of_no_sems (by decide) r.2⟩)
    (Cert.ReferenceIdeal.EntNet.run_slots m ρ)

/-- The kernel and the reference end with equal results and unchanged arguments. -/
theorem equal_results : Cert.algebraic_KernelIdeal_ReferenceIdeal_pre_sentences_finite := by
  intro m g m' g' hpre hagree
  refine ⟨_, Cert.KernelIdeal.EntNet.kernel_run m g, ?_⟩
  refine (θ_run _ _ _).mono (fun r h c => ⟨(h c).1.trans ?_, (h c).2⟩) (Cert.ReferenceIdeal.EntNet.run_slots m' g')
  have hw := Cert.EntNet.words_real _ _ _ _ _ _ (hpre c)
  obtain ⟨h0, h1, h2, h3, h4, h5⟩ := hagree c
  funext i
  idx_vars i
  rw [Cert.ReferenceIdeal.EntNet.rslots_apply, h0, h1, h2, h3, h4, h5]
  exact (Cert.EntNet.kslot_eq_riter _ _ _ _ _ _ hw i0 i1 i2).symm

/-- Everything the certificate claims. -/
theorem claim : Cert.Claim :=
  ⟨Cert.Kernel.Gen.facts, Cert.KernelIdeal.Gen.facts, Cert.ReferenceIdeal.Gen.facts, Cert.EntNet.pre_facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    equal_results⟩

end Cert.Proof

end
